-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_b2_finite [hPre_b2_finite : Cert.Pre_b2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_b2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_b2_finite [hPre_b2_finite : Cert.Pre_b2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_b2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_b2_finite [hKernelIdeal : Cert.KernelIdeal.Facts] [hPre_b2_finite : Cert.Pre_b2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_b2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_b2_finite [hReferenceIdeal : Cert.ReferenceIdeal.Facts] [hPre_b2_finite : Cert.Pre_b2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_b2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_b2_finite [hKernelIdeal : Cert.KernelIdeal.Facts] [hReferenceIdeal : Cert.ReferenceIdeal.Facts] [hPre_b2_finite : Cert.Pre_b2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_b2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_b2_finite : Cert.Pre_b2_finite.Facts),
    quiescent_Kernel (hKernel := hKernel)
    ∧ quiescent_KernelIdeal (hKernelIdeal := hKernelIdeal)
    ∧ quiescent_KernelIdeal_pre_b2_finite (hKernelIdeal := hKernelIdeal) (hPre_b2_finite := hPre_b2_finite)
    ∧ quiescent_ReferenceIdeal (hReferenceIdeal := hReferenceIdeal)
    ∧ quiescent_ReferenceIdeal_pre_b2_finite (hReferenceIdeal := hReferenceIdeal) (hPre_b2_finite := hPre_b2_finite)
    ∧ preserves_Kernel_KernelIdeal
    ∧ algebraic_KernelIdeal_ReferenceIdeal_pre_b2_finite (hKernelIdeal := hKernelIdeal) (hReferenceIdeal := hReferenceIdeal) (hPre_b2_finite := hPre_b2_finite)
-- ==== Pre_b2_finite.lean ====
abbrev S2x4096x1024 : Shape := ⟨3, ![2, 4096, 1024]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x4096x1024 .f32) (main_arg1 : FVec F S1024x64 .f32) (main_arg2 : FVec F S64 .f32) (main_arg3 : FVec F S64x1 .f32) (main_arg4 : FVec F S1 .f32) : IVec S1 1 :=
  let main_v0 : FVec F S1 .f32 := Host.absf main_arg4
  let main_cst : FVec F S_ .f32 := constant S_ .f32 0x7F800000#32
  let main_v1 : FVec F S1 .f32 := broadcastInDim S1 ![] bcast_S_S1 main_cst
  let main_v2 : IVec S1 1 := cmpf .olt main_v0 main_v1
  main_v2
-- ==== Kernel.lean ====
abbrev S2x4096x1024 : Shape := ⟨3, ![2, 4096, 1024]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S2x4096x1 : Shape := ⟨3, ![2, 4096, 1]⟩
abbrev S1x512x1024 : Shape := ⟨3, ![1, 512, 1024]⟩
abbrev S1x512x1 : Shape := ⟨3, ![1, 512, 1]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩
abbrev S2x1x4096 : Shape := ⟨3, ![2, 1, 4096]⟩
abbrev S2x256x1 : Shape := ⟨3, ![2, 256, 1]⟩
abbrev S1x1x512 : Shape := ⟨3, ![1, 1, 512]⟩
abbrev S1x4096x1 : Shape := ⟨3, ![1, 4096, 1]⟩
abbrev S1x256x1 : Shape := ⟨3, ![1, 256, 1]⟩
abbrev S1x512 : Shape := ⟨2, ![1, 512]⟩
abbrev S512x512 : Shape := ⟨2, ![512, 512]⟩
abbrev S256x1 : Shape := ⟨2, ![256, 1]⟩
abbrev S256x512 : Shape := ⟨2, ![256, 512]⟩
abbrev S256 : Shape := ⟨1, ![256]⟩
abbrev S2x4096x4096 : Shape := ⟨3, ![2, 4096, 4096]⟩
abbrev S1x1x4096 : Shape := ⟨3, ![1, 1, 4096]⟩
abbrev S1x256x4096 : Shape := ⟨3, ![1, 256, 4096]⟩
abbrev S2x204x1 : Shape := ⟨3, ![2, 204, 1]⟩
abbrev S2x204 : Shape := ⟨2, ![2, 204]⟩

abbrev nBuf : Space → Nat
  | .hbm => 14
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S1024x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x64, .f32⟩
  | .hbm, ⟨6, _⟩ => ⟨S1x64, .f32⟩
  | .hbm, ⟨7, _⟩ => ⟨S2x4096x1, .f32⟩
  | .hbm, ⟨8, _⟩ => ⟨S2x1x4096, .f32⟩
  | .hbm, ⟨9, _⟩ => ⟨S2x1x4096, .f32⟩
  | .hbm, ⟨10, _⟩ => ⟨S2x256x1, .i32⟩
  | .hbm, ⟨11, _⟩ => ⟨S2x4096x4096, .f32⟩
  | .hbm, ⟨12, _⟩ => ⟨S2x204x1, .i32⟩
  | .hbm, ⟨13, _⟩ => ⟨S2x204, .i32⟩
  | .local _ .vmem, ⟨0, _⟩ => ⟨S1x512x1024, .f32⟩
  | .local _ .vmem, ⟨1, _⟩ => ⟨S1x512x1024, .f32⟩
  | .local _ .vmem, ⟨2, _⟩ => ⟨S1024x64, .f32⟩
  | .local _ .vmem, ⟨3, _⟩ => ⟨S1x64, .f32⟩
  | .local _ .vmem, ⟨4, _⟩ => ⟨S1x64, .f32⟩
  | .local _ .vmem, ⟨5, _⟩ => ⟨S1x512x1, .f32⟩
  | .local _ .vmem, ⟨6, _⟩ => ⟨S1x512x1, .f32⟩
  | .local _ .vmem, ⟨7, _⟩ => ⟨S1x1x512, .f32⟩
  | .local _ .vmem, ⟨8, _⟩ => ⟨S1x1x512, .f32⟩
  | .local _ .vmem, ⟨9, _⟩ => ⟨S1x4096x1, .f32⟩
  | .local _ .vmem, ⟨10, _⟩ => ⟨S1x4096x1, .f32⟩
  | .local _ .vmem, ⟨11, _⟩ => ⟨S1x1x512, .f32⟩
  | .local _ .vmem, ⟨12, _⟩ => ⟨S1x1x512, .f32⟩
  | .local _ .vmem, ⟨13, _⟩ => ⟨S1x256x1, .i32⟩
  | .local _ .vmem, ⟨14, _⟩ => ⟨S1x256x1, .i32⟩
  | .local _ .vmem, ⟨15, _⟩ => ⟨S1x1x4096, .f32⟩
  | .local _ .vmem, ⟨16, _⟩ => ⟨S1x1x4096, .f32⟩
  | .local _ .vmem, ⟨17, _⟩ => ⟨S1x256x4096, .f32⟩
  | .local _ .vmem, ⟨18, _⟩ => ⟨S1x256x4096, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

@[reducible] def k1_t1_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k1_off1 (k1_t1 : Fin k1_t1_loop.trips) : Fin 3 → Nat :=
  let c0_19 : Index := 0#32
  let c0_i32_2 : BitVec 32 := 0#32
  let c1_i32 : BitVec 32 := 1#32
  let arg6 : BitVec 32 := Scf.iv c0_i32_2 c1_i32 k1_t1
  let c512_i32_18 : BitVec 32 := 512#32
  let v35 : BitVec 32 := Scalar.muli arg6 c512_i32_18
  let v36 : Index := Scalar.indexCast v35
  let c0_20 : Index := 0#32
  ![0, v36.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]
-- ==== ReferenceIdeal.lean ====
abbrev S2x4096x1024 : Shape := ⟨3, ![2, 4096, 1024]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S2x4096x64 : Shape := ⟨3, ![2, 4096, 64]⟩
abbrev S1x1x64 : Shape := ⟨3, ![1, 1, 64]⟩
abbrev S_ : Shape := ⟨0, ![]⟩
abbrev S2x4096x1 : Shape := ⟨3, ![2, 4096, 1]⟩
abbrev S1x1x1 : Shape := ⟨3, ![1, 1, 1]⟩
abbrev S2x4096 : Shape := ⟨2, ![2, 4096]⟩
abbrev S2x204 : Shape := ⟨2, ![2, 204]⟩
abbrev S2 : Shape := ⟨1, ![2]⟩
abbrev S2x1 : Shape := ⟨2, ![2, 1]⟩
abbrev S2x204x1 : Shape := ⟨3, ![2, 204, 1]⟩
abbrev S2x204x2 : Shape := ⟨3, ![2, 204, 2]⟩
abbrev S2x1x4096 : Shape := ⟨3, ![2, 1, 4096]⟩
abbrev S2x4096x4096 : Shape := ⟨3, ![2, 4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x4096x64, .f32⟩
  | .hbm, ⟨6, _⟩ => ⟨S1x1x64, .f32⟩
  | .hbm, ⟨7, _⟩ => ⟨S2x4096x64, .f32⟩
  | .hbm, ⟨8, _⟩ => ⟨S2x4096x64, .f32⟩
  | .hbm, ⟨9, _⟩ => ⟨S_, .f32⟩
  | .hbm, ⟨10, _⟩ => ⟨S2x4096x64, .f32⟩
  | .hbm, ⟨11, _⟩ => ⟨S2x4096x64, .f32⟩
  | .hbm, ⟨12, _⟩ => ⟨S2x4096x1, .f32⟩
  | .hbm, ⟨13, _⟩ => ⟨S1x1x1, .f32⟩
  | .hbm, ⟨14, _⟩ => ⟨S2x4096x1, .f32⟩
  | .hbm, ⟨15, _⟩ => ⟨S2x4096x1, .f32⟩
  | .hbm, ⟨16, _⟩ => ⟨S2x4096, .f32⟩
  | .hbm, ⟨17, _⟩ => ⟨S2x204, .f32⟩
  | .hbm, ⟨18, _⟩ => ⟨S2x204, .i32⟩
  | .hbm, ⟨19, _⟩ => ⟨S_, .f32⟩
  | .hbm, ⟨20, _⟩ => ⟨S2x4096, .f32⟩
  | .hbm, ⟨21, _⟩ => ⟨S2, .i32⟩
  | .hbm, ⟨22, _⟩ => ⟨S2x1, .i32⟩
  | .hbm, ⟨23, _⟩ => ⟨S_, .i32⟩
  | .hbm, ⟨24, _⟩ => ⟨S2x1, .i32⟩
  | .hbm, ⟨25, _⟩ => ⟨S2x1, .i1⟩
  | .hbm, ⟨26, _⟩ => ⟨S_, .i32⟩
  | .hbm, ⟨27, _⟩ => ⟨S2x1, .i32⟩
  | .hbm, ⟨28, _⟩ => ⟨S2x1, .i32⟩
  | .hbm, ⟨29, _⟩ => ⟨S2x1, .i32⟩
  | .hbm, ⟨30, _⟩ => ⟨S_, .i32⟩
  | .hbm, ⟨31, _⟩ => ⟨S2x204, .i32⟩
  | .hbm, ⟨32, _⟩ => ⟨S2x204, .i1⟩
  | .hbm, ⟨33, _⟩ => ⟨S_, .i32⟩
  | .hbm, ⟨34, _⟩ => ⟨S2x204, .i32⟩
  | .hbm, ⟨35, _⟩ => ⟨S2x204, .i32⟩
  | .hbm, ⟨36, _⟩ => ⟨S2x204, .i32⟩
  | .hbm, ⟨37, _⟩ => ⟨S2x204, .i32⟩
  | .hbm, ⟨38, _⟩ => ⟨S2x204x1, .i32⟩
  | .hbm, ⟨39, _⟩ => ⟨S2x204x1, .i32⟩
  | .hbm, ⟨40, _⟩ => ⟨S2x204x2, .i32⟩
  | .hbm, ⟨41, _⟩ => ⟨S_, .f32⟩
  | .hbm, ⟨42, _⟩ => ⟨S2x204, .f32⟩
  | .hbm, ⟨43, _⟩ => ⟨S2x4096, .f32⟩
  | .hbm, ⟨44, _⟩ => ⟨S2x1x4096, .f32⟩
  | .hbm, ⟨45, _⟩ => ⟨S2x4096x4096, .f32⟩
  | .hbm, ⟨46, _⟩ => ⟨S_, .f32⟩
  | .hbm, ⟨47, _⟩ => ⟨S2x4096x4096, .f32⟩
  | .hbm, ⟨48, _⟩ => ⟨S2x4096x4096, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_values : Ref sig .tc := ⟨.hbm, 17, rfl⟩
abbrev main_indices : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.K1.lean ====
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem trip_eq (c : Dev nD) (i : grid1.Coords) (arg2 : Memref sig .tc .vmem S1x1x512 .f32) (harg2 : arg2.IsWhole) (arg3 : Memref sig .tc .vmem S1x4096x1 .f32) (harg3 : arg3.IsWhole) (arg4 : Memref sig .tc .vmem S1x1x512 .f32) (harg4 : arg4.IsWhole) (arg5 : Memref sig .tc .vmem S1x256x1 .i32) (harg5 : arg5.IsWhole)
    (v0 : Vec F S1x1x512 .f32) (x1 : Vec F S1x4096x1 .f32) (k : Fin k1_t1_loop.trips) (acc : IVec S1x512 32) :
    tripR_k1_t1 (F := F) Variants.none c none i arg2 harg2 arg3 harg3 arg4 harg4 arg5 harg5 v0 (harg3.unread x1) k acc
      = k1_pay3 i v0 k acc (View.ld x1 (Rect.unit (s := S1x4096x1) (k1_off1 k) S1x512x1.size (k1_off1_inb k))) := by
  unfold tripR_k1_t1 trip_k1_t1
  dsimp only
  sl_unfold_words
  simp only [View.readAt_eq_ld, harg3.read_unread]

/-- The counts after `n` of the loop's trips. -/
def cnt (i : grid1.Coords) (v0 : Vec F S1x1x512 .f32) (x1 : Vec F S1x4096x1 .f32) : ℕ → IVec S1x512 32
  | 0 => k1_pay2
  | n + 1 => if h : n < k1_t1_loop.trips then
      k1_pay3 i v0 ⟨n, h⟩ (cnt i v0 x1 n) (View.ld x1 (Rect.unit (s := S1x4096x1) (k1_off1 ⟨n, h⟩) S1x512x1.size (k1_off1_inb ⟨n, h⟩)))
    else cnt i v0 x1 n

theorem st_eq (c : Dev nD) (i : grid1.Coords) (arg2 : Memref sig .tc .vmem S1x1x512 .f32) (harg2 : arg2.IsWhole) (arg3 : Memref sig .tc .vmem S1x4096x1 .f32) (harg3 : arg3.IsWhole) (arg4 : Memref sig .tc .vmem S1x1x512 .f32) (harg4 : arg4.IsWhole) (arg5 : Memref sig .tc .vmem S1x256x1 .i32) (harg5 : arg5.IsWhole)
    (v0 : Vec F S1x1x512 .f32) (x1 : Vec F S1x4096x1 .f32) : ∀ n, n ≤ k1_t1_loop.trips →
    st_k1_t1 (F := F) Variants.none c none i arg2 harg2 arg3 harg3 arg4 harg4 arg5 harg5 v0 (harg3.unread x1) k1_pay2 n = cnt i v0 x1 n
  | 0, _ => rfl
  | n + 1, h => by
    have := st_k1_t1_succ (F := F) Variants.none c none i arg2 harg2 arg3 harg3 arg4 harg4 arg5 harg5 v0 (harg3.unread x1) k1_pay2 ⟨n, h⟩
    rw [this, trip_eq, st_eq c i arg2 harg2 arg3 harg3 arg4 harg4 arg5 harg5 v0 x1 n (by omega), cnt, dif_pos (Nat.lt_of_succ_le h)]

theorem out_A_2 (c : Dev nD) (i : grid1.Coords) (arg2 : Memref sig .tc .vmem S1x1x512 .f32) (harg2 : arg2.IsWhole) (arg3 : Memref sig .tc .vmem S1x4096x1 .f32) (harg3 : arg3.IsWhole) (arg4 : Memref sig .tc .vmem S1x1x512 .f32) (harg4 : arg4.IsWhole) (arg5 : Memref sig .tc .vmem S1x256x1 .i32) (harg5 : arg5.IsWhole) (hc0 : cond1_0 i)
    (x0 : Vec F S1x1x512 .f32) (x1 : Vec F S1x4096x1 .f32) :
    out1_A_2 c i arg2 harg2 arg3 harg3 arg4 harg4 arg5 harg5 hc0 x0 x1 = k1_pay4 (cnt i x0 x1 k1_t1_loop.trips) := by
  unfold out1_A_2
  rw [View.read_writes_eq_canon _ _ _ (cover1_A_2 c i arg2 harg2 arg3 harg3 arg4 harg4 arg5 harg5 hc0 x0 x1)]
  unfold kernelRun1_A
  dsimp only
  sl_unfold_words
  rw [View.canon_unit_zero hz3]
  simp only [View.readAt_eq_ld, harg2.read_unread, View.ld_unit_zero (S := S1x1x512) hz3]
  rw [st_eq _ _ _ _ _ _ _ _ _ _ _ _ _ le_rfl]

theorem out_B_2 (c : Dev nD) (i : grid1.Coords) (arg2 : Memref sig .tc .vmem S1x1x512 .f32) (harg2 : arg2.IsWhole) (arg3 : Memref sig .tc .vmem S1x4096x1 .f32) (harg3 : arg3.IsWhole) (arg4 : Memref sig .tc .vmem S1x1x512 .f32) (harg4 : arg4.IsWhole) (arg5 : Memref sig .tc .vmem S1x256x1 .i32) (harg5 : arg5.IsWhole) (hc0 : ¬cond1_0 i)
    (x0 : Vec F S1x1x512 .f32) (x1 : Vec F S1x4096x1 .f32) (xo3 : Vec F S1x256x1 .i32) :
    out1_B_2 c i arg2 harg2 arg3 harg3 arg4 harg4 arg5 harg5 hc0 x0 x1 xo3 = k1_pay4 (cnt i x0 x1 k1_t1_loop.trips) := by
  unfold out1_B_2
  rw [View.read_writes_eq_canon _ _ _ (cover1_B_2 c i arg2 harg2 arg3 harg3 arg4 harg4 arg5 harg5 hc0 x0 x1 xo3)]
  unfold kernelRun1_B
  dsimp only
  sl_unfold_words
  rw [View.canon_unit_zero hz3]
  simp only [View.readAt_eq_ld, harg2.read_unread, View.ld_unit_zero (S := S1x1x512) hz3]
  rw [st_eq _ _ _ _ _ _ _ _ _ _ _ _ _ le_rfl]

theorem out_B_3 (c : Dev nD) (i : grid1.Coords) (arg2 : Memref sig .tc .vmem S1x1x512 .f32) (harg2 : arg2.IsWhole) (arg3 : Memref sig .tc .vmem S1x4096x1 .f32) (harg3 : arg3.IsWhole) (arg4 : Memref sig .tc .vmem S1x1x512 .f32) (harg4 : arg4.IsWhole) (arg5 : Memref sig .tc .vmem S1x256x1 .i32) (harg5 : arg5.IsWhole) (hc0 : ¬cond1_0 i)
    (x0 : Vec F S1x1x512 .f32) (x1 : Vec F S1x4096x1 .f32) (xo3 : Vec F S1x256x1 .i32) :
    out1_B_3 c i arg2 harg2 arg3 harg3 arg4 harg4 arg5 harg5 hc0 x0 x1 xo3 = k1_pay6 i (cnt i x0 x1 k1_t1_loop.trips) xo3 := by
  unfold out1_B_3
  rw [View.read_writes_eq_canon _ _ _ (cover1_B_3 c i arg2 harg2 arg3 harg3 arg4 harg4 arg5 harg5 hc0 x0 x1 xo3)]
  unfold kernelRun1_B
  dsimp only
  sl_unfold_words
  rw [View.canon_unit_zero hz3]
  simp only [View.readAt_eq_ld, harg2.read_unread, harg5.read_unread, View.ld_unit_zero (S := S1x1x512) hz3, View.ld_unit_zero (S := S1x256x1) hz3]
  rw [st_eq _ _ _ _ _ _ _ _ _ _ _ _ _ le_rfl]

theorem out_A_3 (c : Dev nD) (i : grid1.Coords) (arg2 : Memref sig .tc .vmem S1x1x512 .f32) (harg2 : arg2.IsWhole) (arg3 : Memref sig .tc .vmem S1x4096x1 .f32) (harg3 : arg3.IsWhole) (arg4 : Memref sig .tc .vmem S1x1x512 .f32) (harg4 : arg4.IsWhole) (arg5 : Memref sig .tc .vmem S1x256x1 .i32) (harg5 : arg5.IsWhole) (hc0 : cond1_0 i)
    (x0 : Vec F S1x1x512 .f32) (x1 : Vec F S1x4096x1 .f32) :
    out1_A_3 c i arg2 harg2 arg3 harg3 arg4 harg4 arg5 harg5 hc0 x0 x1 = k1_pay6 (F := F) i (cnt i x0 x1 k1_t1_loop.trips) k1_pay5 := by
  unfold out1_A_3
  rw [View.read_writes_eq_canon _ _ _ (cover1_A_3 c i arg2 harg2 arg3 harg3 arg4 harg4 arg5 harg5 hc0 x0 x1)]
  unfold kernelRun1_A
  dsimp only
  sl_unfold_words
  rw [View.canon_cons_unit_zero (S := S1x256x1) hz3, View.readCov_unit_zero (S := S1x256x1) _ hz3]
  simp only [View.readAt_eq_ld, harg2.read_unread, View.ld_unit_zero (S := S1x1x512) hz3]
  rw [st_eq _ _ _ _ _ _ _ _ _ _ _ _ _ le_rfl]

end Cert.KernelIdeal.Val

end
-- ==== Proof.KArr.lean ====
module

public import proofs.«01_k».proof.Proof.K1
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

theorem idx0 : ∀ t : Fin cfg0.N, win0_0.index t = ![t.val / 8, t.val % 8, 0] ∧ win0_1.index t = ![0, 0]
    ∧ win0_2.index t = ![0, 0] ∧ win0_3.index t = ![0, 0] ∧ win0_4.index t = ![t.val / 8, t.val % 8, 0] := by
  decide +kernel

theorem idx1 : ∀ t : Fin cfg1.N, win1_0.index t = ![t.val / 8, 0, t.val % 8] ∧ win1_1.index t = ![t.val / 8, 0, 0]
    ∧ win1_2.index t = ![t.val / 8, 0, t.val % 8] ∧ win1_3.index t = ![t.val / 8, 0, 0]
    ∧ (grid1.coords t 1).val = t.val % 8 := by
  decide +kernel

theorem idx2 : ∀ t : Fin cfg2.N, win2_0.index t = ![t.val / 16, 0, 0] ∧ win2_1.index t = ![t.val / 16, t.val % 16, 0] := by
  decide +kernel

/-- The mask laid out once per row of the attention. -/
theorem final2 (c : Dev nD) :
   (dat2 (F := Ideal) V c).arrAt 1 cfg2.N = fun i : S2x4096x4096.Idx => V c main_v4_0 (ix3 (i 0) 0 (i 2)) := by
  refine (dat2 (F := Ideal) V c).arrAt_eq_of_covers 1 _ (by decide +kernel) fun t hf y => ?_
  blk_simp
  rw [after2_1]
  frame_out
  obtain ⟨e0, e1⟩ := idx2 t
  obtain ⟨a, r, l, rfl⟩ : ∃ (a : Fin 1) (r : Fin 256) (l : Fin 4096), y = ix3 a r l := ⟨y 0, y 1, y 2, eq_ix3 y⟩
  pointwise [k2_pay1]
  blk_ext [iblk2, e0, e1]

/-- The scores: an affine layer, a rectifier, and a weighted sum. -/
def score (X : S2x4096x1024.Idx → EReal) (A : S1024x64.Idx → EReal) (b w : Fin 64 → EReal) (g : Fin 2) (i : Fin 4096) : EReal :=
  ∑ f : Fin 64, max (∑ d : Fin 1024, X (ix3 g i d) * A (ix2 d f) + b f) 0 * w f

theorem final0 (c : Dev nD) :
   (dat0 (F := Ideal) V c).arrAt 4 cfg0.N = fun i : S2x4096x1.Idx =>
     score (V c main_arg0) (V c main_arg1) (fun f => V c main_v0 (ix2 0 f)) (fun f => V c main_v1 (ix2 0 f)) (i 0) (i 1) := by
  refine (dat0 (F := Ideal) V c).arrAt_eq_of_covers 4 _ (by decide +kernel) fun t hf y => ?_
  blk_simp
  rw [after0_4]
  frame_out
  obtain ⟨e0, e1, e2, e3, e4⟩ := idx0 t
  obtain ⟨a, r, l, rfl⟩ : ∃ (a : Fin 1) (r : Fin 512) (l : Fin 1), y = ix3 a r l := ⟨y 0, y 1, y 2, eq_ix3 y⟩
  pointwise [k0_pay1, score]
  blk_point [iblk0, e0, e1, e2, e3, e4]

/-- `i` comes before `j`: the greater score, at equal scores the lower position. -/
def bef (s : Fin 4096 → EReal) (i j : Fin 4096) : Prop := s j < s i ∨ (s i = s j ∧ i < j)

open Classical in
/-- How many positions below `n` come before `j`. -/
def cntB (s : Fin 4096 → EReal) (j : Fin 4096) (n : ℕ) : ℕ :=
  ∑ i ∈ Finset.range n, if h : i < 4096 then (if bef s ⟨i, h⟩ j then 1 else 0) else 0

/-- The position `j` takes in the order. -/
def rk (s : Fin 4096 → EReal) (j : Fin 4096) : ℕ := cntB s j 4096

theorem fold_addi {ι : Type} (S : Finset ι) (f : ι → BitVec 32) (g : ι → ℕ) (h : ∀ x ∈ S, f x = BitVec.ofNat 32 (g x)) :
    Finset.fold IntOp.addi (0#32) f S = BitVec.ofNat 32 (∑ x ∈ S, g x) := by
  classical
  induction S using Finset.induction_on with
  | empty => rfl
  | insert a S ha ih =>
    rw [Finset.fold_insert ha, Finset.sum_insert ha, ih fun x hx => h x (Finset.mem_insert_of_mem hx),
      h a (Finset.mem_insert_self _ _), BitVec.ofNat_add]
    rfl

theorem slt_ofNat (a b : ℕ) (ha : a < 2 ^ 31) (hb : b < 2 ^ 31) :
    IntOp.cmpi .slt (BitVec.ofNat 32 a) (BitVec.ofNat 32 b) = BitVec.ofBool (decide (a < b)) := by
  have : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  simp only [IntOp.cmpi, this]

theorem bit_count (p q r : Prop) [Decidable p] [Decidable q] [Decidable r] [Decidable (p ∨ (q ∧ r))] :
    BitVec.setWidth 32 (IntOp.ori (BitVec.ofBool (decide p)) (IntOp.andi (BitVec.ofBool (decide q)) (BitVec.ofBool (decide r))))
      = BitVec.ofNat 32 (if p ∨ (q ∧ r) then 1 else 0) := by
  by_cases p <;> by_cases q <;> by_cases r <;> simp [*, IntOp.ori, IntOp.andi]

theorem pay3_apply (i : grid1.Coords) (v0 : Vec Ideal S1x1x512 .f32) (k : Fin k1_t1_loop.trips) (acc : IVec S1x512 32)
    (v37 : Vec Ideal S1x512x1 .f32) (l : Fin 512) (s : Fin 4096 → EReal) (hk : k.val < 8)
    (hl : 512 * (i 1).val + l.val < 4096)
    (h0 : v0 (ix3 0 0 l) = s ⟨512 * (i 1).val + l.val, hl⟩)
    (h1 : ∀ x : Fin 512, v37 (ix3 0 x 0) = s ⟨512 * k.val + x.val, by omega⟩)
    (hacc : acc (ix2 0 l) = BitVec.ofNat 32 (cntB s ⟨512 * (i 1).val + l.val, hl⟩ (512 * k.val))) :
    k1_pay3 (F := Ideal) i v0 k acc v37 (ix2 0 l)
      = BitVec.ofNat 32 (cntB s ⟨512 * (i 1).val + l.val, hl⟩ (512 * (k.val + 1))) := by
  classical
  pointwise [k1_pay3, k1_pay1]
  rw [fold_addi _ _ (fun x : Fin 512 => if bef s ⟨512 * k.val + x.val, by omega⟩ ⟨512 * (i 1).val + l.val, hl⟩ then 1 else 0)]
  · rw [hacc, show 512 * (k.val + 1) = 512 * k.val + 512 by ring]
    unfold cntB
    rw [show ∀ (f : ℕ → ℕ) (n : ℕ), ∑ i ∈ Finset.range (n + 512), f i = ∑ i ∈ Finset.range n, f i + ∑ x : Fin 512, f (n + x.val) from
      fun f n => by rw [Finset.sum_range_add, Finset.sum_range fun x => f (n + x)], BitVec.ofNat_add]
    have hs : ∑ x : Fin 512, (if h : 512 * k.val + x.val < 4096 then (if bef s ⟨512 * k.val + x.val, h⟩ ⟨512 * (i 1).val + l.val, hl⟩ then 1 else 0) else 0)
        = ∑ x : Fin 512, if bef s ⟨512 * k.val + x.val, by omega⟩ ⟨512 * (i 1).val + l.val, hl⟩ then 1 else 0 :=
      Finset.sum_congr rfl fun x _ => dif_pos (show 512 * k.val + x.val < 4096 by omega)
    rw [hs]
    generalize BitVec.ofNat 32 (∑ i ∈ Finset.range (512 * k.val), _) = A
    generalize BitVec.ofNat 32 (∑ x : Fin 512, _) = B
    rfl
  · intro x _
    have e1 : IntOp.addi (Scalar.muli (Scf.iv 0#32 1#32 ↑k) 512#32) (BitVec.ofNat 32 ↑x) = BitVec.ofNat 32 (512 * k.val + x.val) := by
      apply BitVec.eq_of_toNat_eq
      simp [IntOp.addi, Scalar.muli, Scf.iv, IntOp.muli]
      omega
    have e2 : IntOp.addi (Scalar.muli (BitVec.ofNat 32 ↑(i 1)) 512#32) (BitVec.ofNat 32 ↑l) = BitVec.ofNat 32 (512 * (i 1).val + l.val) := by
      apply BitVec.eq_of_toNat_eq
      simp [IntOp.addi, Scalar.muli, IntOp.muli]
      omega
    rw [e1, e2, slt_ofNat _ _ (by omega) (by omega)]
    refine (bit_count _ _ _).trans ?_
    congr 1
    refine if_congr ?_ rfl rfl
    unfold bef
    rw [← h0, ← h1 x]
    rfl

end Cert.KernelIdeal.Val

end
-- ==== Proof.KTop.lean ====
module

public import proofs.«01_k».proof.Proof.KArr

@[expose] public section

set_option maxRecDepth 16384
noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

theorem trips8 : k1_t1_loop.trips = 8 := by decide +kernel

theorem off1 : ∀ k : Fin k1_t1_loop.trips, k1_off1 k = ![0, 512 * k.val, 0] := by decide +kernel

theorem cntB_le (s : Fin 4096 → EReal) (j : Fin 4096) (n : ℕ) : cntB s j n ≤ n := by
  classical
  unfold cntB
  calc _ ≤ ∑ i ∈ Finset.range n, 1 := Finset.sum_le_sum fun i _ => by split_ifs <;> simp
    _ = n := by simp

theorem rk_le (s : Fin 4096 → EReal) (j : Fin 4096) : rk s j ≤ 4096 := cntB_le s j 4096

/-- One row's scores. -/
def row (c : Dev nD) (g : Fin 2) (p : Fin 4096) : EReal := V c main_v2 (ix3 g p 0)

theorem N1 : cfg1.N = 16 := by decide +kernel

theorem t8 (t : Fin cfg1.N) : t.val / 8 < 2 := by have := lt_of_lt_of_eq t.isLt N1; omega

theorem x0_apply (c : Dev nD) (hV : ∀ (g : Fin 2) (p : Fin 4096), (V c main_v3 (ix3 g 0 p) : EReal) = V c main_v2 (ix3 g p 0))
    (t : Fin cfg1.N) (l : Fin 512) :
    iblk1 V c 0 t (ix3 0 0 l) = row V c ⟨t.val / 8, t8 t⟩ ⟨512 * (t.val % 8) + l.val, by omega⟩ := by
  obtain ⟨e0, e1, e2, e3, e4⟩ := idx1 t
  unfold row
  rw [← hV]
  blk_ext [iblk1, e0, e1]

theorem x1_apply (c : Dev nD) (t : Fin cfg1.N) (p : Fin 4096) :
    iblk1 V c 1 t (ix3 0 p 0) = row V c ⟨t.val / 8, t8 t⟩ p := by
  obtain ⟨e0, e1, e2, e3, e4⟩ := idx1 t
  unfold row
  blk_ext [iblk1, e0, e1]

theorem cnt_apply (c : Dev nD) (hV : ∀ (g : Fin 2) (p : Fin 4096), (V c main_v3 (ix3 g 0 p) : EReal) = V c main_v2 (ix3 g p 0))
    (t : Fin cfg1.N) (l : Fin 512) (hl : 512 * (grid1.coords t 1).val + l.val < 4096) : ∀ n, n ≤ 8 →
    cnt (F := Ideal) (grid1.coords t) (iblk1 V c 0 t) (iblk1 V c 1 t) n (ix2 0 l)
      = BitVec.ofNat 32 (cntB (row V c ⟨t.val / 8, t8 t⟩) ⟨512 * (grid1.coords t 1).val + l.val, hl⟩ (512 * n))
  | 0, _ => by
    have : cntB (row V c ⟨t.val / 8, t8 t⟩) ⟨512 * (grid1.coords t 1).val + l.val, hl⟩ (512 * 0) = 0 := Nat.le_zero.mp (cntB_le _ _ _)
    rw [this]
    rfl
  | n + 1, h => by
    obtain ⟨e0, e1, e2, e3, e4⟩ := idx1 t
    have ht : n < k1_t1_loop.trips := by rw [trips8]; omega
    rw [cnt, dif_pos ht]
    refine pay3_apply _ _ ⟨n, ht⟩ _ _ l _ (by show n < 8; omega) hl ?_ (fun x => ?_) (cnt_apply c hV t l hl n (by omega))
    · rw [x0_apply V c hV]
      congr 1
      apply Fin.ext
      show 512 * (t.val % 8) + l.val = _
      rw [← e4]
    · rw [← x1_apply]
      rw [View.ld_apply]
      congr 1
      funext a
      apply Fin.ext
      have := off1 ⟨n, ht⟩
      match a with
      | ⟨0, _⟩ => show k1_off1 ⟨n, ht⟩ 0 + 1 * 0 = 0; rw [this]; rfl
      | ⟨1, _⟩ => show k1_off1 ⟨n, ht⟩ 1 + 1 * x.val = 512 * n + x.val; rw [this]; show 512 * n + 1 * x.val = _; omega
      | ⟨2, _⟩ => show k1_off1 ⟨n, ht⟩ 2 + 1 * 0 = 0; rw [this]; rfl

theorem cnt_all (c : Dev nD) (hV : ∀ (g : Fin 2) (p : Fin 4096), (V c main_v3 (ix3 g 0 p) : EReal) = V c main_v2 (ix3 g p 0))
    (t : Fin cfg1.N) (l : Fin 512) :
    cnt (F := Ideal) (grid1.coords t) (iblk1 V c 0 t) (iblk1 V c 1 t) k1_t1_loop.trips (ix2 0 l)
      = BitVec.ofNat 32 (rk (row V c ⟨t.val / 8, t8 t⟩) ⟨512 * (t.val % 8) + l.val, by omega⟩) := by
  obtain ⟨e0, e1, e2, e3, e4⟩ := idx1 t
  rw [trips8, cnt_apply V c hV t l (by rw [e4]; omega) 8 le_rfl]
  unfold rk
  congr 2
  apply Fin.ext
  show 512 * (grid1.coords t 1).val + l.val = _
  rw [e4]

/-- The weight a chosen column carries. -/
def cw : EReal := Ideal.ofBits .f32 0x3BA0A0A1#32

theorem pay4_apply (v : IVec S1x512 32) (l : Fin 512) (r : ℕ) (hr : r ≤ 4096) (hv : v (ix2 0 l) = BitVec.ofNat 32 r) :
    k1_pay4 (F := Ideal) v (ix3 0 0 l) = if r < 204 then cw else 0 := by
  pointwise [k1_pay4]
  rw [hv, slt_ofNat _ _ (by omega) (by omega)]
  by_cases h : r < 204 <;> simp [h, Scalar.select, cw]

theorem outs2 (c : Dev nD) (t : Fin cfg1.N) : (outsAt1 (F := Ideal) V c t.val t.isLt).1
    = k1_pay4 (F := Ideal) (cnt (grid1.coords t) (iblk1 V c 0 t) (iblk1 V c 1 t) k1_t1_loop.trips) := by
  by_cases h0 : t.val % 8 = 0
  · rw [outsAt1_A V c t h0]; dsimp only; rw [out_A_2]
  · rw [outsAt1_B V c t h0]; dsimp only; rw [out_B_2]

theorem outs3_A (c : Dev nD) (t : Fin cfg1.N) (h0 : t.val % 8 = 0) : (outsAt1 (F := Ideal) V c t.val t.isLt).2
    = k1_pay6 (F := Ideal) (grid1.coords t) (cnt (grid1.coords t) (iblk1 V c 0 t) (iblk1 V c 1 t) k1_t1_loop.trips) k1_pay5 := by
  rw [outsAt1_A V c t h0]; dsimp only; rw [out_A_3]

theorem outs3_B (c : Dev nD) (t : Fin cfg1.N) (h0 : ¬t.val % 8 = 0) : (outsAt1 (F := Ideal) V c t.val t.isLt).2
    = k1_pay6 (F := Ideal) (grid1.coords t) (cnt (grid1.coords t) (iblk1 V c 0 t) (iblk1 V c 1 t) k1_t1_loop.trips)
      (outsAt1 (F := Ideal) V c (t.val - 1) (Nat.lt_of_le_of_lt (Nat.sub_le _ _) t.isLt)).2 := by
  rw [outsAt1_B V c t h0]; dsimp only; rw [out_B_3]

theorem mask_congr (c : Dev nD) {g g' : Fin 2} {p p' : Fin 4096} (hg : g = g') (hp : p = p') :
    (if rk (row V c g) p < 204 then cw else 0) = if rk (row V c g') p' < 204 then cw else 0 := by
  subst hg hp; rfl

/-- The mask. -/
theorem final1_2 (c : Dev nD) (hV : ∀ (g : Fin 2) (p : Fin 4096), (V c main_v3 (ix3 g 0 p) : EReal) = V c main_v2 (ix3 g p 0)) :
   (dat1 (F := Ideal) V c).arrAt 2 cfg1.N = fun i : S2x1x4096.Idx => if rk (row V c (i 0)) (i 2) < 204 then cw else 0 := by
  refine (dat1 (F := Ideal) V c).arrAt_eq_of_covers 2 _ (by decide +kernel) fun t hf y => ?_
  obtain ⟨e0, e1, e2, e3, e4⟩ := idx1 t
  have hn : t.val < 16 := lt_of_lt_of_eq t.isLt N1
  blk_simp [e2]
  rw [after1_2, outs2]
  obtain ⟨a, b, l, rfl⟩ : ∃ (a : Fin 1) (b : Fin 1) (l : Fin 512), y = ix3 a b l := ⟨y 0, y 1, y 2, eq_ix3 y⟩
  obtain rfl : a = 0 := Subsingleton.elim _ _
  obtain rfl : b = 0 := Subsingleton.elim _ _
  refine (pay4_apply _ l _ (rk_le _ _) (cnt_all V c hV t l)).trans ?_
  refine mask_congr V c (Fin.ext ?_) (Fin.ext ?_)
  · blk_simp [e2]; rfl
  · blk_simp [e2]; exact congrArg (· + l.val) (Nat.mul_comm _ _)

/-- The position at place `p` of the order, summed over the columns below `n`. -/
def tsum (s : Fin 4096 → EReal) (p n : ℕ) : ℕ :=
  ∑ q ∈ Finset.range n, if h : q < 4096 then (if rk s ⟨q, h⟩ = p then q else 0) else 0

theorem pay6_apply (i : grid1.Coords) (v : IVec S1x512 32) (acc : Vec Ideal S1x256x1 .i32) (p : Fin 256) (s : Fin 4096 → EReal)
    (n : ℕ) (hn : n < 8) (hi : (i 1).val = n) (hv : ∀ x : Fin 512, v (ix2 0 x) = BitVec.ofNat 32 (rk s ⟨512 * n + x.val, by omega⟩))
    (hacc : acc (ix3 0 p 0) = BitVec.ofNat 32 (tsum s p.val (512 * n))) :
    k1_pay6 (F := Ideal) i v acc (ix3 0 p 0) = BitVec.ofNat 32 (tsum s p.val (512 * (n + 1))) := by
  pointwise [k1_pay6, k1_pay1]
  rw [fold_addi _ _ (fun x : Fin 512 => if rk s ⟨512 * n + x.val, by omega⟩ = p.val then 512 * n + x.val else 0)]
  · rw [hacc, show 512 * (n + 1) = 512 * n + 512 by ring]
    unfold tsum
    rw [show ∀ (f : ℕ → ℕ) (n : ℕ), ∑ i ∈ Finset.range (n + 512), f i = ∑ i ∈ Finset.range n, f i + ∑ x : Fin 512, f (n + x.val) from
      fun f n => by rw [Finset.sum_range_add, Finset.sum_range fun x => f (n + x)], BitVec.ofNat_add]
    have hs : ∑ x : Fin 512, (if h : 512 * n + x.val < 4096 then (if rk s ⟨512 * n + x.val, h⟩ = p.val then 512 * n + x.val else 0) else 0)
        = ∑ x : Fin 512, if rk s ⟨512 * n + x.val, by omega⟩ = p.val then 512 * n + x.val else 0 :=
      Finset.sum_congr rfl fun x _ => dif_pos (show 512 * n + x.val < 4096 by omega)
    rw [hs]
    generalize BitVec.ofNat 32 (∑ i ∈ Finset.range (512 * n), _) = A
    generalize BitVec.ofNat 32 (∑ x : Fin 512, _) = B
    rfl
  · intro x _
    have e2 : IntOp.addi (Scalar.muli (BitVec.ofNat 32 ↑(i 1)) 512#32) (BitVec.ofNat 32 ↑x) = BitVec.ofNat 32 (512 * n + x.val) := by
      rw [hi]
      apply BitVec.eq_of_toNat_eq
      simp [IntOp.addi, Scalar.muli, IntOp.muli]
      omega
    rw [e2, hv]
    have hr := rk_le s ⟨512 * n + x.val, by omega⟩
    generalize rk s ⟨512 * n + x.val, by omega⟩ = r at hr ⊢
    have hp := p.isLt
    by_cases h : r = p.val
    · simp [h, IntOp.cmpi, Scalar.select]
    · have : ¬ BitVec.ofNat 32 r = BitVec.ofNat 32 p.val := fun e => h (by
        have := congrArg BitVec.toNat e
        simp only [BitVec.toNat_ofNat] at this
        omega)
      have hb : (BitVec.ofNat 32 r == BitVec.ofNat 32 p.val) = false := beq_eq_false_iff_ne.mpr this
      simp [h, hb, IntOp.cmpi, Scalar.select]

/-- The second output's block after point `n`. -/
theorem outs3_apply (c : Dev nD) (hV : ∀ (g : Fin 2) (p : Fin 4096), (V c main_v3 (ix3 g 0 p) : EReal) = V c main_v2 (ix3 g p 0))
    (p : Fin 256) : ∀ (n : ℕ) (hn : n < cfg1.N),
    (outsAt1 (F := Ideal) V c n hn).2 (ix3 0 p 0)
      = BitVec.ofNat 32 (tsum (row V c ⟨n / 8, t8 ⟨n, hn⟩⟩) p.val (512 * (n % 8 + 1))) := by
  intro n
  induction n with
  | zero =>
    intro hn
    rw [outs3_A V c ⟨0, hn⟩ rfl]
    exact pay6_apply _ _ _ p _ 0 (by omega) (idx1 ⟨0, hn⟩).2.2.2.2 (fun x => cnt_all V c hV ⟨0, hn⟩ x) rfl
  | succ n ih =>
    intro hn
    by_cases h0 : (n + 1) % 8 = 0
    · rw [outs3_A V c ⟨n + 1, hn⟩ h0]
      refine pay6_apply _ _ _ p _ ((n + 1) % 8) (by omega) (idx1 ⟨n + 1, hn⟩).2.2.2.2 (fun x => cnt_all V c hV ⟨n + 1, hn⟩ x) ?_
      rw [h0]
      rfl
    · rw [outs3_B V c ⟨n + 1, hn⟩ h0]
      refine pay6_apply _ _ _ p _ ((n + 1) % 8) (by omega) (idx1 ⟨n + 1, hn⟩).2.2.2.2 (fun x => cnt_all V c hV ⟨n + 1, hn⟩ x) ?_
      refine (ih (Nat.lt_of_succ_lt hn)).trans ?_
      have e1 : n % 8 + 1 = (n + 1) % 8 := by omega
      have e2 : n / 8 = (n + 1) / 8 := by omega
      rw [e1]
      congr 4

theorem tsum_congr (c : Dev nD) {g g' : Fin 2} {p p' n n' : ℕ} (hg : g = g') (hp : p = p') (hn : n = n') :
    BitVec.ofNat 32 (tsum (row V c g) p n) = BitVec.ofNat 32 (tsum (row V c g') p' n') := by
  subst hg hp hn; rfl

/-- The positions in order. -/
theorem final1_3 (c : Dev nD) (hV : ∀ (g : Fin 2) (p : Fin 4096), (V c main_v3 (ix3 g 0 p) : EReal) = V c main_v2 (ix3 g p 0)) :
   (dat1 (F := Ideal) V c).arrAt 3 cfg1.N = fun i : S2x256x1.Idx => BitVec.ofNat 32 (tsum (row V c (i 0)) (i 1).val 4096) := by
  refine (dat1 (F := Ideal) V c).arrAt_eq_of_covers 3 _ (by decide +kernel) fun t hf y => ?_
  obtain ⟨e0, e1, e2, e3, e4⟩ := idx1 t
  have h7 : t.val % 8 = 7 := (flush1_3 t).mp hf
  blk_simp [e3]
  rw [after1_3]
  obtain ⟨a, b, l, rfl⟩ : ∃ (a : Fin 1) (b : Fin 256) (l : Fin 1), y = ix3 a b l := ⟨y 0, y 1, y 2, eq_ix3 y⟩
  obtain rfl : a = 0 := Subsingleton.elim _ _
  obtain rfl : l = 0 := Subsingleton.elim _ _
  refine (outs3_apply V c hV b t.val t.isLt).trans ?_
  refine tsum_congr V c (Fin.ext ?_) ?_ ?_
  · blk_simp [e3]; rfl
  · blk_simp [e3]
  · rw [h7]

end Cert.KernelIdeal.Val

end
-- ==== Proof.KRun.lean ====
module

public import proofs.«01_k».proof.Proof.KTop
public import Idealize.ShloMosaic.Lib.StableHlo.ReadAt

@[expose] public section

set_option maxRecDepth 16384
noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Val

open Cert.KernelIdeal Cert.KernelIdeal.Gen

section AnyF
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution leaves the two results at the last boundary's contents and the arguments as launched. -/
theorem run : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v5 (by decide)), h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end AnyF

variable (m : (ℓ : Loc nD τ sig) → Buf (Elt Ideal) ℓ) (ρ : Dev nD → PrngReg)

/-- A position's score, without the last bias. -/
def sc (c : Dev nD) (g : Fin 2) (p : Fin 4096) : EReal :=
  score (m ((c : Thread nD τ).loc main_arg0)) (m ((c : Thread nD τ).loc main_arg1))
    (fun f => m ((c : Thread nD τ).loc main_arg2) (ix1 f)) (fun f => m ((c : Thread nD τ).loc main_arg3) (ix2 f 0)) g p

theorem v0_at (c : Dev nD) (f : Fin 64) : (V1 m ρ c main_v0 (ix2 0 f) : EReal) = m ((c : Thread nD τ).loc main_arg2) (ix1 f) := by
  after_reads_at

theorem v1_at (c : Dev nD) (f : Fin 64) : (V1 m ρ c main_v1 (ix2 0 f) : EReal) = m ((c : Thread nD τ).loc main_arg3) (ix2 f 0) := by
  after_reads_at

theorem v2_at2 (c : Dev nD) (g : Fin 2) (p : Fin 4096) : (V2 m ρ c main_v2 (ix3 g p 0) : EReal) = sc m c g p := by
  refine (congrFun ((W2_arr m ρ c 4).trans (final0 (V1 m ρ) c)) (ix3 g p 0)).trans ?_
  have e0 : V1 m ρ c main_arg0 = m ((c : Thread nD τ).loc main_arg0) := W1_args m ρ c _ (by decide)
  have e1 : V1 m ρ c main_arg1 = m ((c : Thread nD τ).loc main_arg1) := W1_args m ρ c _ (by decide)
  have e2 : (fun f : Fin 64 => (V1 m ρ c main_v0 (ix2 0 f) : EReal)) = fun f => m ((c : Thread nD τ).loc main_arg2) (ix1 f) :=
    funext (v0_at m ρ c)
  have e3 : (fun f : Fin 64 => (V1 m ρ c main_v1 (ix2 0 f) : EReal)) = fun f => m ((c : Thread nD τ).loc main_arg3) (ix2 f 0) :=
    funext (v1_at m ρ c)
  unfold sc
  rw [← e0, ← e1, ← e2, ← e3]
  rfl

theorem v2_at (c : Dev nD) (g : Fin 2) (p : Fin 4096) : (V3 m ρ c main_v2 (ix3 g p 0) : EReal) = sc m c g p :=
  (congrFun (W3_of m ρ c main_v2 (by decide)) (ix3 g p 0)).trans (v2_at2 m ρ c g p)

theorem v3_at (c : Dev nD) (g : Fin 2) (p : Fin 4096) : (V3 m ρ c main_v3 (ix3 g 0 p) : EReal) = V3 m ρ c main_v2 (ix3 g p 0) := by
  rw [v2_at, ← v2_at2 m ρ]
  after_reads_at

theorem row_eq (c : Dev nD) (g : Fin 2) : row (V3 m ρ) c g = sc m c g := funext fun p => v2_at m ρ c g p

/-- The kernel's attention at an index. -/
theorem att (c : Dev nD) : W6 m ρ c (Proc.devRef .tc main_v5)
    = fun i : S2x4096x4096.Idx => if rk (sc m c (i 0)) (i 2) < 204 then cw else 0 := by
  refine (W6_of m ρ c main_v5 (by decide)).trans ((W5_arr m ρ c 1).trans ((final2 (V4 m ρ) c).trans ?_))
  funext i
  refine (congrFun ((W4_arr m ρ c 2).trans (final1_2 (V3 m ρ) c (v3_at m ρ c))) (ix3 (i 0) 0 (i 2))).trans ?_
  exact if_congr (iff_of_eq (congrArg (fun s => rk s (i 2) < 204) (row_eq m ρ c (i 0)))) rfl rfl

/-- The kernel's positions at an index. -/
theorem pos (c : Dev nD) (g : Fin 2) (p : Fin 204) : W6 m ρ c (Proc.devRef .tc main_v7) (ix2 g p)
    = BitVec.ofNat 32 (tsum (sc m c g) p.val 4096) := by
  have h5 : ∀ p : Fin 256, W5 m ρ c (Proc.devRef .tc main_v4_1) (ix3 g p 0) = BitVec.ofNat 32 (tsum (sc m c g) p.val 4096) := fun p => by
    refine (congrFun ((W5_of m ρ c main_v4_1 (by decide)).trans ((W4_arr m ρ c 3).trans (final1_3 (V3 m ρ) c (v3_at m ρ c)))) (ix3 g p 0)).trans ?_
    show BitVec.ofNat 32 (tsum (row (V3 m ρ) c g) p.val 4096) = _
    rw [row_eq]
  refine Eq.trans ?_ (h5 ⟨p.val, by omega⟩)
  after_reads_at

end Cert.KernelIdeal.Val

end
-- ==== Proof.Pure.lean ====
module

public import proofs.«01_k».proof.Proof.KTop
public import Idealize.ShloMosaic.Lib.SortPrefix

@[expose] public section

noncomputable section

open Idealize.ShloMosaic

namespace Cert.KernelIdeal.Val

/-- The reference's comparator: `i` sorts before `j` when its score is the greater. -/
def gtB (s : Fin 4096 → EReal) (i j : Fin 4096) : Bool := decide (s j < s i)

/-- The greater score first, then the earlier position. -/
def befB (s : Fin 4096 → EReal) (i j : Fin 4096) : Bool :=
  decide (s j < s i) || (decide (s i = s j) && decide (i < j))

theorem befB_iff (s : Fin 4096 → EReal) (i j : Fin 4096) : befB s i j = true ↔ bef s i j := by
  simp [befB, bef]

theorem befB_total (s : Fin 4096 → EReal) : StrictTotalBefore (befB s) :=
  StrictTotalBefore.of_key_then_position (fun a b : EReal => decide (b < a)) s (fun a => by simp)
    (fun a b c h h' => by simp only [decide_eq_true_eq] at *; exact lt_trans h' h)
    (fun a b => by
      simp only [decide_eq_true_eq]
      rcases lt_trichotomy b a with h | h | h
      · exact .inl h
      · exact .inr (.inl h.symm)
      · exact .inr (.inr h))

/-- A stable sort of increasing positions by the score alone breaks ties by position. -/
theorem stable_gt (s : Fin 4096 → EReal) (l : List (Fin 4096)) (hl : l.Pairwise (· < ·)) :
    stableSort (gtB s) l = stableSort (befB s) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.mp hb)
    simp [gtB, befB, not_lt_of_gt h]

theorem sorted_of {n : ℕ} (B B' : Fin n → Fin n → Bool) (h : sortPositions n B = sortPositions n B') :
    sortedFrom B = sortedFrom B' := by
  funext k
  unfold sortedFrom
  rw [List.get_of_eq h]
  rfl

theorem sorted_gt (s : Fin 4096 → EReal) : sortedFrom (gtB s) = sortedFrom (befB s) :=
  sorted_of _ _ (stable_gt s _ (List.pairwise_lt_finRange 4096))

/-- The position the sort puts at place `k`. -/
def sel (s : Fin 4096 → EReal) : Fin 4096 → Fin 4096 := sortedFrom (gtB s)

theorem sel_bij (s : Fin 4096 → EReal) : Function.Bijective (sel s) :=
  ⟨sortedFrom_injective _, sortedFrom_surjective _⟩

theorem sel_bef (s : Fin 4096 → EReal) (i j : Fin 4096) : bef s (sel s i) (sel s j) ↔ i < j := by
  have hB := befB_total s
  have ho : ∀ i j : Fin 4096, i < j → befB s (sel s j) (sel s i) = false := fun i j h => by
    unfold sel; rw [sorted_gt]
    exact sortedFrom_noInversion _ _ hB.asymm (fun _ _ h => h) hB.negTrans i j h
  rw [← befB_iff]
  rcases lt_trichotomy i j with h | h | h
  · refine iff_of_true ?_ h
    rcases hB.total (sel s i) (sel s j) fun e => h.ne ((sel_bij s).1 e) with h' | h'
    · exact h'
    · rw [ho i j h] at h'; exact absurd h' (by decide)
  · subst h; simp [hB.irrefl]
  · refine iff_of_false ?_ (not_lt_of_gt h)
    rw [ho j i h]; decide

open Classical in
theorem rk_sel (s : Fin 4096 → EReal) (k : Fin 4096) : rk s (sel s k) = k.val := by
  unfold rk cntB
  rw [Finset.sum_range]
  calc _ = ∑ i : Fin 4096, if bef s i (sel s k) then 1 else 0 :=
        Finset.sum_congr rfl fun i _ => by rw [dif_pos i.isLt]
    _ = ∑ i : Fin 4096, if bef s (sel s i) (sel s k) then 1 else 0 :=
        ((sel_bij s).sum_comp fun i => if bef s i (sel s k) then 1 else 0).symm
    _ = ∑ i : Fin 4096, if i < k then 1 else 0 :=
        Finset.sum_congr rfl fun i _ => if_congr (sel_bef s i k) rfl rfl
    _ = k.val := by
        rw [Finset.sum_boole, Nat.cast_id, show Finset.univ.filter (fun i : Fin 4096 => i < k) = Finset.Iio k from by ext; simp,
          Fin.card_Iio]

theorem rk_lt_iff (s : Fin 4096 → EReal) (j : Fin 4096) (n : ℕ) (hn : n ≤ 4096) :
    rk s j < n ↔ ∃ p : Fin n, sel s (p.castLE hn) = j := by
  obtain ⟨k, rfl⟩ := (sel_bij s).2 j
  rw [rk_sel]
  constructor
  · exact fun h => ⟨⟨k.val, h⟩, congrArg (sel s) (Fin.ext rfl)⟩
  · rintro ⟨p, hp⟩
    rw [← (sel_bij s).1 hp]; exact p.isLt

theorem tsum_sel (s : Fin 4096 → EReal) (k : Fin 4096) : tsum s k.val 4096 = (sel s k).val := by
  unfold tsum
  rw [Finset.sum_range]
  calc _ = ∑ q : Fin 4096, if rk s q = k.val then q.val else 0 :=
        Finset.sum_congr rfl fun i _ => by rw [dif_pos i.isLt]
    _ = ∑ q : Fin 4096, if rk s (sel s q) = k.val then (sel s q).val else 0 :=
        ((sel_bij s).sum_comp fun q => if rk s q = k.val then q.val else 0).symm
    _ = ∑ q : Fin 4096, if q = k then (sel s q).val else 0 :=
        Finset.sum_congr rfl fun q _ => by rw [rk_sel]; exact if_congr Fin.ext_iff.symm rfl rfl
    _ = (sel s k).val := by rw [Finset.sum_ite_eq' Finset.univ k]; simp

end Cert.KernelIdeal.Val

end
-- ==== Proof.RVal.lean ====
module

public import proofs.«01_k».proof.Proof.Pure
public import proofs.«01_k».proof.Proof.Gen.ReferenceIdeal
public import proofs.«01_k».proof.Proof.Gen.ReferenceIdeal.Run
public import Idealize.ShloMosaic.Lib.Routing.OpsSet
public import Idealize.ShloMosaic.Lib.Tactic.WordOmega

@[expose] public section

set_option maxRecDepth 16384
noncomputable section

open Idealize.ShloMosaic Idealize.ShloMosaic.TcCoe Idealize.SL.Sem

namespace Cert.ReferenceIdeal.Val

open Cert.ReferenceIdeal Cert.ReferenceIdeal.Gen
open Cert.KernelIdeal.Val (score sel gtB rk cw)

/-- The reference's scores. -/
def X (a0 : FVec Ideal S2x4096x1024 .f32) (a1 : FVec Ideal S1024x64 .f32) (a2 : FVec Ideal S64 .f32) (a3 : FVec Ideal S64x1 .f32) (a4 : FVec Ideal S1 .f32) :
    FVec Ideal S2x4096 .f32 :=
  shapeCast _ (addf (Host.dotGeneral dot_S2x4096x64_S64x1_S2x4096x1_2_0_01_1_n_n none (maximumf (addf (Host.dotGeneral dot_S2x4096x1024_S1024x64_S2x4096x64_2_0_01_1_n_n none a0 a1) (broadcastInDim S2x4096x64 ![0, 1, 2] bcast_S1x1x64_S2x4096x64_0_1_2 (broadcastInDim S1x1x64 ![2] bcast_S64_S1x1x64_2 a2))) (broadcastInDim S2x4096x64 ![] bcast_S_S2x4096x64 (constant S_ .f32 0x00000000#32))) a3) (broadcastInDim S2x4096x1 ![0, 1, 2] bcast_S1x1x1_S2x4096x1_0_1_2 (broadcastInDim S1x1x1 ![2] bcast_S1_S1x1x1_2 a4))) shapeCasts_S2x4096x1_S2x4096

/-- The reference's positions. -/
def I (x : FVec Ideal S2x4096 .f32) : IVec S2x204 32 :=
  (Host.topK S2x204 1 (FloatOps.cmpfTotal .gt) x sliceFits_S2x4096_S2x204).2

/-- The pairs the reference scatters at. -/
def prs (t : IVec S2x204 32) : IVec S2x204x2 32 :=
  concatenate S2x204x2 2 [⟨S2x204x1, (broadcastInDim S2x204x1 ![0, 1] bcast_S2x204_S2x204x1_0_1 (broadcastInDim S2x204 ![0, 1] bcast_S2x1_S2x204_0_1 (select (cmpi .slt (broadcastInDim S2x1 ![0] bcast_S2_S2x1_0 (iotaInDim S2 32 0)) (broadcastInDim S2x1 ![] bcast_S_S2x1 (constantI S_ 32 0#32))) (addi (broadcastInDim S2x1 ![0] bcast_S2_S2x1_0 (iotaInDim S2 32 0)) (broadcastInDim S2x1 ![] bcast_S_S2x1 (constantI S_ 32 2#32))) (broadcastInDim S2x1 ![0] bcast_S2_S2x1_0 (iotaInDim S2 32 0)))))⟩, ⟨S2x204x1, (broadcastInDim S2x204x1 ![0, 1] bcast_S2x204_S2x204x1_0_1 (select (cmpi .slt t (broadcastInDim S2x204 ![] bcast_S_S2x204 (constantI S_ 32 0#32))) (addi t (broadcastInDim S2x204 ![] bcast_S_S2x204 (constantI S_ 32 4096#32))) t))⟩] concatenates_S2x204x1_S2x204x1_S2x204x2_d2

/-- The reference's row of weights. -/
def sct (t : IVec S2x204 32) : FVec Ideal S2x4096 .f32 :=
  Host.scatter scatter_S2x4096_S2x204x2_S2x204_n_01_01_2 (fun _ b => b) (broadcastInDim S2x4096 ![] bcast_S_S2x4096 (constant S_ .f32 0x00000000#32)) (prs t) (broadcastInDim S2x204 ![] bcast_S_S2x204 (constant S_ .f32 0x3BA0A0A1#32))

/-- The reference's attention. -/
def A (t : IVec S2x204 32) : FVec Ideal S2x4096x4096 .f32 :=
  addf (broadcastInDim S2x4096x4096 ![0, 1, 2] bcast_S2x1x4096_S2x4096x4096_0_1_2 (broadcastInDim S2x1x4096 ![0, 2] bcast_S2x4096_S2x1x4096_0_2 (sct t))) (broadcastInDim S2x4096x4096 ![] bcast_S_S2x4096x4096 (constant S_ .f32 0x00000000#32))

theorem X_at (a0 : FVec Ideal S2x4096x1024 .f32) (a1 : FVec Ideal S1024x64 .f32) (a2 : FVec Ideal S64 .f32) (a3 : FVec Ideal S64x1 .f32) (a4 : FVec Ideal S1 .f32)
    (g : Fin 2) (p : Fin 4096) :
    X a0 a1 a2 a3 a4 (ix2 g p) = score a0 a1 (fun f => a2 (ix1 f)) (fun f => a3 (ix2 f 0)) g p + a4 (ix1 0) := by
  unfold X score
  pointwise

theorem along_ix2 (g : Fin 2) (j k : Fin 4096) : (ix2 g j : S2x4096.Idx).along 1 k = ix2 g k := by
  funext i; fin_cases i <;> rfl

/-- The positions a sort along a row carries. -/
theorem sort_row {α : Type} (cmp : α × BitVec 32 → α × BitVec 32 → BitVec 1) (x : S2x4096.Idx → α) (y : IVec S2x4096 32) (g : Fin 2) (q : Fin 4096) :
    (Host.sort2 S2x4096 1 cmp x y).2 (ix2 g q)
      = y (ix2 g (sortedFrom (fun k k' : Fin 4096 => cmp (x (ix2 g k), y (ix2 g k)) (x (ix2 g k'), y (ix2 g k')) == 1#1) q)) := by
  have e : (fun k k' : Fin 4096 => cmp (x (ix2 g k), y (ix2 g k)) (x (ix2 g k'), y (ix2 g k')) == 1#1)
      = fun k k' : Fin 4096 => cmp (x ((ix2 g q : S2x4096.Idx).along 1 k), y ((ix2 g q : S2x4096.Idx).along 1 k))
          (x ((ix2 g q : S2x4096.Idx).along 1 k'), y ((ix2 g q : S2x4096.Idx).along 1 k')) == 1#1 := by
    funext k k'
    rw [along_ix2, along_ix2]
  rw [e]
  refine Eq.trans ?_ (congrArg y (along_ix2 g q _))
  unfold Host.sort2
  rw [dif_pos (by decide)]
  rfl

theorem I_at (x : FVec Ideal S2x4096 .f32) (s : Fin 4096 → EReal) (b : ℝ) (g : Fin 2) (hx : ∀ p, (x (ix2 g p) : EReal) = s p + (b : EReal)) (p : Fin 204) :
    I x (ix2 g p) = BitVec.ofNat 32 (sel s (p.castLE (by decide))).val := by
  have hB : (fun k k' : Fin 4096 => FloatOps.cmpfTotal (F := Ideal) (φ := .f32) .gt (x (ix2 g k)) (x (ix2 g k')) == 1#1) = gtB s := by
    funext k k'
    have : FloatOps.cmpfTotal (F := Ideal) (φ := .f32) .gt (x (ix2 g k)) (x (ix2 g k')) = BitVec.ofBool (decide ((x (ix2 g k') : EReal) < x (ix2 g k))) := rfl
    rw [this, hx, hx]
    unfold gtB
    have h : s k' + (b : EReal) < s k + (b : EReal) ↔ s k' < s k := by
      rw [← not_le, ← not_le, (EReal.addLECancellable_coe b).add_le_add_iff_right]
    simp only [h]
    by_cases h' : s k' < s k <;> simp [h']
  unfold sel
  rw [← hB]
  unfold I Host.topK
  dsimp only
  have hs : ∀ y : IVec S2x4096 32, extractStridedSlice S2x204 (fun _ => 0) y sliceFits_S2x4096_S2x204 (ix2 g p)
      = y (ix2 g (p.castLE (by decide))) := fun y => by
    pointwise
    rfl
  rw [hs, sort_row]
  generalize sortedFrom _ _ = q
  rw [dif_pos (by decide)]
  rfl

theorem vix2 {n m : ℕ} (a : Fin n) (b : Fin m) : (ValueIdx.ix2 a b : (⟨2, ![n, m]⟩ : Shape).Idx) = ix2 a b := by
  funext i; fin_cases i <;> rfl

theorem vix3 {n m l : ℕ} (a : Fin n) (b : Fin m) (c : Fin l) : (ValueIdx.ix3 a b c : (⟨3, ![n, m, l]⟩ : Shape).Idx) = ix3 a b c := by
  funext i; fin_cases i <;> rfl

/-- A position below 4096 is not wrapped. -/
theorem wrapped (n : ℕ) (h : n < 4096) (a : BitVec 32) :
    (Scalar.select (IntOp.cmpi .slt (BitVec.ofNat 32 n) 0#32) (IntOp.addi (BitVec.ofNat 32 n) a) (BitVec.ofNat 32 n)).toInt = n := by
  have hn : (BitVec.ofNat 32 n).toNat = n := by rw [BitVec.toNat_ofNat]; omega
  rw [Routing.wrap_of_lt _ _ (by rw [hn]; omega), BitVec.toInt_eq_toNat_of_lt (by rw [hn]; omega), hn]

theorem prs0 (t : IVec S2x204 32) (g : Fin 2) (p : Fin 204) : (prs t (ix3 g p 0)).toInt = g.val := by
  unfold prs
  pointwise
  exact wrapped g.val (by omega) 2#32

theorem prs1 (t : IVec S2x204 32) (σ : Fin 2 → Fin 204 → Fin 4096) (ht : ∀ g p, t (ix2 g p) = BitVec.ofNat 32 (σ g p).val) (g : Fin 2) (p : Fin 204) :
    (prs t (ix3 g p 1)).toInt = (σ g p).val := by
  unfold prs
  pointwise
  rw [ht]
  exact wrapped _ (by omega) _

theorem A_at (t : IVec S2x204 32) (σ : Fin 2 → Fin 204 → Fin 4096) (ht : ∀ g p, t (ix2 g p) = BitVec.ofNat 32 (σ g p).val) (g : Fin 2) (i j : Fin 4096)
    [Decidable (∃ p, σ g p = j)] :
    A t (ix3 g i j) = if ∃ p, σ g p = j then cw else 0 := by
  have hA : A t (ix3 g i j) = sct t (ix2 g j) := by
    unfold A
    pointwise
  rw [hA]
  unfold sct
  have hl : ∀ (k : S2x204.Idx), scatter_S2x4096_S2x204x2_S2x204_n_01_01_2.resultIdx? k (prs t) = some (ix2 g j) ↔ k 0 = g ∧ σ (k 0) (k 1) = j := fun k => by
    obtain ⟨a, b, rfl⟩ : ∃ (a : Fin 2) (b : Fin 204), k = ix2 a b := ⟨k 0, k 1, eq_ix2 k⟩
    rw [← vix2, ← vix2]
    refine (Routing.scatter_lands2 scatter_S2x4096_S2x204x2_S2x204_n_01_01_2 rfl rfl rfl (prs t) a b g j).trans ?_
    rw [vix3, vix3, prs0, prs1 t σ ht]
    refine and_congr ?_ ?_
    · exact ⟨fun h => Fin.ext (by exact_mod_cast h), fun h => by rw [← h]⟩
    · exact ⟨fun h => Fin.ext (by exact_mod_cast h), fun h => by rw [← h]⟩
  split
  · rename_i h
    obtain ⟨p, hp⟩ := h
    exact Routing.scatter_set_hit _ _ _ _ _ _ (fun _ _ => rfl) (ix2 g p) ((hl _).mpr ⟨rfl, hp⟩)
  · rename_i h
    refine (Routing.scatter_set_miss _ _ _ _ _ fun k hk => ?_).trans ?_
    · obtain ⟨h0, h1⟩ := (hl k).mp hk
      exact h ⟨k 1, by rw [← h0]; exact h1⟩
    · pointwise

end Cert.ReferenceIdeal.Val

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_b2_finite
public import proofs.«01_k».proof.Proof.KRun
public import proofs.«01_k».proof.Proof.RVal
public import Idealize.ShloMosaic.Lib.Quiescent

@[expose] public section

set_option maxRecDepth 16384

noncomputable section

namespace Cert.Proof

open Idealize.ShloMosaic Idealize.ShloMosaic.TcCoe Idealize.SL.Sem

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The precondition says that the last bias is a real number. -/
theorem real_of_pre (a0 : FVec Ideal Cert.Pre_b2_finite.S2x4096x1024 .f32) (a1 : FVec Ideal Cert.Pre_b2_finite.S1024x64 .f32)
    (a2 : FVec Ideal Cert.Pre_b2_finite.S64 .f32) (a3 : FVec Ideal Cert.Pre_b2_finite.S64x1 .f32) (a4 : FVec Ideal Cert.Pre_b2_finite.S1 .f32)
    (h : Cert.Pre_b2_finite.fn (F := Ideal) a0 a1 a2 a3 a4 = fun _ => 1#1) : ∃ b : ℝ, (a4 (ix1 0) : EReal) = b := by
  have h1 := congrFun h (ix1 0)
  revert h1
  unfold Cert.Pre_b2_finite.fn
  pointwise
  rw [show Ideal.ofBits .f32 2139095040#32 = ⊤ by simp [Ideal.ofBits, Ideal.ieee],
    show FloatOps.absf (a4 (ix1 0)) = max (a4 (ix1 0) : EReal) (-(a4 (ix1 0) : EReal)) from rfl]
  intro h1
  have h2 : max (a4 (ix1 0) : EReal) (-(a4 (ix1 0) : EReal)) < ⊤ := by
    by_contra hn
    rw [decide_eq_false hn] at h1
    exact absurd h1 (by decide)
  generalize (a4 (ix1 0) : EReal) = x at h2
  induction x using EReal.rec with
  | bot => simp at h2
  | coe b => exact ⟨b, rfl⟩
  | top => simp at h2

open Cert.KernelIdeal.Val (sc sel rk tsum cw run att pos rk_lt_iff tsum_sel)
open Cert.ReferenceIdeal.Val (X I A X_at I_at A_at)

section values

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's scores of the kernel's arguments. -/
def XK : FVec Ideal Cert.ReferenceIdeal.S2x4096 .f32 :=
  X (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))

theorem I_eq (hp : Cert.Pre_KernelIdeal_b2_finite m) (g : Fin 2) (p : Fin 204) :
    I (XK m c) (ix2 g p) = BitVec.ofNat 32 (sel (sc m c g) (p.castLE (by decide))).val := by
  obtain ⟨b, hb⟩ := real_of_pre _ _ _ _ _ (hp c)
  refine I_at _ _ b g (fun p => ?_) p
  rw [← hb]
  exact X_at _ _ _ _ _ g p

theorem pos_eq (hp : Cert.Pre_KernelIdeal_b2_finite m) :
    I (XK m c) = Cert.KernelIdeal.Gen.W6 m ρ c (Proc.devRef .tc Cert.KernelIdeal.main_v7) := by
  funext k
  obtain ⟨g, p, rfl⟩ : ∃ (g : Fin 2) (p : Fin 204), k = ix2 g p := ⟨k 0, k 1, eq_ix2 k⟩
  rw [I_eq m c hp]
  exact ((pos m ρ c g p).trans (congrArg (BitVec.ofNat 32) (tsum_sel (sc m c g) (p.castLE (by decide))))).symm

open Classical in
theorem att_eq (hp : Cert.Pre_KernelIdeal_b2_finite m) :
    A (I (XK m c)) = Cert.KernelIdeal.Gen.W6 m ρ c (Proc.devRef .tc Cert.KernelIdeal.main_v5) := by
  rw [att]
  funext k
  obtain ⟨g, i, j, rfl⟩ : ∃ (g : Fin 2) (i j : Fin 4096), k = ix3 g i j := ⟨k 0, k 1, k 2, eq_ix3 k⟩
  refine (A_at _ (fun g p => sel (sc m c g) (p.castLE (by decide))) (fun g p => I_eq m c hp g p) g i j).trans ?_
  exact if_congr (rk_lt_iff (sc m c g) j 204 (by decide)).symm rfl rfl

end values

theorem algebraic : Cert.algebraic_KernelIdeal_ReferenceIdeal_pre_b2_finite := by
  intro m ρ m' ρ' hp ha
  refine ⟨_, _, run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4⟩ := ha c
    rw [h0, h1, h2, h3, h4]
    exact att_eq m ρ c hp
  · obtain ⟨h0, h1, h2, h3, h4⟩ := ha c
    rw [h0, h1, h2, h3, h4]
    exact pos_eq m ρ c hp

theorem claim : Cert.Claim := ⟨Cert.Kernel.Gen.facts, Cert.KernelIdeal.Gen.facts, Cert.ReferenceIdeal.Gen.facts, Cert.Pre_b2_finite.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
